-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sane : Cert.Pre_sane.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ preserves_Kernel_KernelIdeal
    ∧ algebraic_KernelIdeal_ReferenceIdeal_pre_sane (hKernelIdeal := hKernelIdeal) (hReferenceIdeal := hReferenceIdeal) (hPre_sane := hPre_sane)
-- ==== Pre_sane.lean ====
abbrev S8x500x2 : Shape := ⟨3, ![8, 500, 2]⟩
abbrev S8x500x53 : Shape := ⟨3, ![8, 500, 53]⟩
abbrev S400 : Shape := ⟨1, ![400]⟩
abbrev S400x53 : Shape := ⟨2, ![400, 53]⟩
abbrev S_ : Shape := ⟨0, ![]⟩
abbrev S8x500x17 : Shape := ⟨3, ![8, 500, 17]⟩
abbrev S400x2 : Shape := ⟨2, ![400, 2]⟩
abbrev S400x17 : Shape := ⟨2, ![400, 17]⟩

class Facts : Prop where
  bcast_S_S400 : S_.BroadcastsInDim S400 (![] : Fin 0 → Fin S400.rank)
  reducesTo_S400_S_d0 : S400.ReducesTo [0] S_
  h_S_ : 0 < S_.numel
  slices_S8x500x53_S8x500x2_0_0_0 : S8x500x53.Slices ![0, 0, 0] S8x500x2
  bcast_S_S8x500x2 : S_.BroadcastsInDim S8x500x2 (![] : Fin 0 → Fin S8x500x2.rank)
  reducesTo_S8x500x2_S_d0_1_2 : S8x500x2.ReducesTo [0, 1, 2] S_
  slices_S8x500x53_S8x500x17_0_0_36 : S8x500x53.Slices ![0, 0, 36] S8x500x17
  bcast_S_S8x500x17 : S_.BroadcastsInDim S8x500x17 (![] : Fin 0 → Fin S8x500x17.rank)
  reducesTo_S8x500x17_S_d0_1_2 : S8x500x17.ReducesTo [0, 1, 2] S_
  slices_S400x53_S400x2_0_0 : S400x53.Slices ![0, 0] S400x2
  bcast_S_S400x2 : S_.BroadcastsInDim S400x2 (![] : Fin 0 → Fin S400x2.rank)
  reducesTo_S400x2_S_d0_1 : S400x2.ReducesTo [0, 1] S_
  slices_S400x53_S400x17_0_36 : S400x53.Slices ![0, 36] S400x17
  bcast_S_S400x17 : S_.BroadcastsInDim S400x17 (![] : Fin 0 → Fin S400x17.rank)
  reducesTo_S400x17_S_d0_1 : S400x17.ReducesTo [0, 1] S_

variable [Facts]

def fn_part2 {F : FTy → Type} [FloatOps F] (main_v31 : IVec S_ 1) (main_v34 : IVec S400x17 1) : IVec S_ 1 :=
  let main_c_11 : IVec S_ 1 := constantI S_ 1 1#1
  let main_v35 : IVec S_ 1 := (fun x v => Host.reduce IntOp.andi x v reducesTo_S400x17_S_d0_1 h_S_) main_v34 main_c_11
  let main_v36 : IVec S_ 1 := andi main_v31 main_v35
  main_v36

def fn_part1 {F : FTy → Type} [FloatOps F] (main_arg3 : FVec F S400x53 .f32) (main_v13 : IVec S_ 1) (main_v15 : FVec F S8x500x17 .f32) (main_v16 : FVec F S8x500x17 .f32) : IVec S_ 1 :=
  let main_v17 : IVec S8x500x17 1 := cmpf .olt main_v15 main_v16
  let main_c_5 : IVec S_ 1 := constantI S_ 1 1#1
  let main_v18 : IVec S_ 1 := (fun x v => Host.reduce IntOp.andi x v reducesTo_S8x500x17_S_d0_1_2 h_S_) main_v17 main_c_5
  let main_v19 : IVec S_ 1 := andi main_v13 main_v18
  let main_v20 : FVec F S400x2 .f32 := (extractStridedSlice S400x2 ![0, 0] · slices_S400x53_S400x2_0_0) main_arg3
  let main_v21 : FVec F S400x2 .f32 := Host.absf main_v20
  let main_cst_6 : FVec F S_ .f32 := constant S_ .f32 0x7F800000#32
  let main_v22 : FVec F S400x2 .f32 := broadcastInDim S400x2 ![] bcast_S_S400x2 main_cst_6
  let main_v23 : IVec S400x2 1 := cmpf .olt main_v21 main_v22
  let main_c_7 : IVec S_ 1 := constantI S_ 1 1#1
  let main_v24 : IVec S_ 1 := (fun x v => Host.reduce IntOp.andi x v reducesTo_S400x2_S_d0_1 h_S_) main_v23 main_c_7
  let main_v25 : IVec S_ 1 := andi main_v19 main_v24
  let main_v26 : FVec F S400x17 .f32 := (extractStridedSlice S400x17 ![0, 36] · slices_S400x53_S400x17_0_36) main_arg3
  let main_v27 : FVec F S400x17 .f32 := Host.absf main_v26
  let main_cst_8 : FVec F S_ .f32 := constant S_ .f32 0x7F800000#32
  let main_v28 : FVec F S400x17 .f32 := broadcastInDim S400x17 ![] bcast_S_S400x17 main_cst_8
  let main_v29 : IVec S400x17 1 := cmpf .olt main_v27 main_v28
  let main_c_9 : IVec S_ 1 := constantI S_ 1 1#1
  let main_v30 : IVec S_ 1 := (fun x v => Host.reduce IntOp.andi x v reducesTo_S400x17_S_d0_1 h_S_) main_v29 main_c_9
  let main_v31 : IVec S_ 1 := andi main_v25 main_v30
  let main_v32 : FVec F S400x17 .f32 := (extractStridedSlice S400x17 ![0, 36] · slices_S400x53_S400x17_0_36) main_arg3
  let main_cst_10 : FVec F S_ .f32 := constant S_ .f32 0x00000000#32
  let main_v33 : FVec F S400x17 .f32 := broadcastInDim S400x17 ![] bcast_S_S400x17 main_cst_10
  let main_v34 : IVec S400x17 1 := cmpf .oge main_v32 main_v33
  fn_part2 (F := F) main_v31 main_v34

def fn {F : FTy → Type} [FloatOps F] (main_arg0 : FVec F S8x500x2 .f32) (main_arg1 : FVec F S8x500x53 .f32) (main_arg2 : IVec S400 32) (main_arg3 : FVec F S400x53 .f32) (main_arg4 : IVec S_ 32) : IVec S_ 1 :=
  let main_c : IVec S_ 32 := constantI S_ 32 0#32
  let main_v0 : IVec S400 32 := broadcastInDim S400 ![] bcast_S_S400 main_c
  let main_v1 : IVec S400 1 := cmpi .sge main_arg2 main_v0
  let main_c_0 : IVec S_ 32 := constantI S_ 32 2#32
  let main_v2 : IVec S400 32 := broadcastInDim S400 ![] bcast_S_S400 main_c_0
  let main_v3 : IVec S400 1 := cmpi .slt main_arg2 main_v2
  let main_v4 : IVec S400 1 := andi main_v1 main_v3
  let main_c_1 : IVec S_ 1 := constantI S_ 1 1#1
  let main_v5 : IVec S_ 1 := (fun x v => Host.reduce IntOp.andi x v reducesTo_S400_S_d0 h_S_) main_v4 main_c_1
  let main_c_2 : IVec S_ 32 := constantI S_ 32 1#32
  let main_v6 : IVec S_ 1 := cmpi .sge main_arg4 main_c_2
  let main_v7 : IVec S_ 1 := andi main_v5 main_v6
  let main_v8 : FVec F S8x500x2 .f32 := (extractStridedSlice S8x500x2 ![0, 0, 0] · slices_S8x500x53_S8x500x2_0_0_0) main_arg1
  let main_v9 : FVec F S8x500x2 .f32 := Host.absf main_v8
  let main_cst : FVec F S_ .f32 := constant S_ .f32 0x7F800000#32
  let main_v10 : FVec F S8x500x2 .f32 := broadcastInDim S8x500x2 ![] bcast_S_S8x500x2 main_cst
  let main_v11 : IVec S8x500x2 1 := cmpf .olt main_v9 main_v10
  let main_c_3 : IVec S_ 1 := constantI S_ 1 1#1
  let main_v12 : IVec S_ 1 := (fun x v => Host.reduce IntOp.andi x v reducesTo_S8x500x2_S_d0_1_2 h_S_) main_v11 main_c_3
  let main_v13 : IVec S_ 1 := andi main_v7 main_v12
  let main_v14 : FVec F S8x500x17 .f32 := (extractStridedSlice S8x500x17 ![0, 0, 36] · slices_S8x500x53_S8x500x17_0_0_36) main_arg1
  let main_v15 : FVec F S8x500x17 .f32 := Host.absf main_v14
  let main_cst_4 : FVec F S_ .f32 := constant S_ .f32 0x7F800000#32
  let main_v16 : FVec F S8x500x17 .f32 := broadcastInDim S8x500x17 ![] bcast_S_S8x500x17 main_cst_4
  fn_part1 (F := F) main_arg3 main_v13 main_v15 main_v16
-- ==== Kernel.lean ====
abbrev S8x500x2 : Shape := ⟨3, ![8, 500, 2]⟩
abbrev S8x500x53 : Shape := ⟨3, ![8, 500, 53]⟩
abbrev S400 : Shape := ⟨1, ![400]⟩
abbrev S400x53 : Shape := ⟨2, ![400, 53]⟩
abbrev S_ : Shape := ⟨0, ![]⟩
abbrev S1x400 : Shape := ⟨2, ![1, 400]⟩
abbrev S1x1 : Shape := ⟨2, ![1, 1]⟩
abbrev S8x500x400 : Shape := ⟨3, ![8, 500, 400]⟩
abbrev S1x500x2 : Shape := ⟨3, ![1, 500, 2]⟩
abbrev S1x500x53 : Shape := ⟨3, ![1, 500, 53]⟩
abbrev S1x500x400 : Shape := ⟨3, ![1, 500, 400]⟩
abbrev S500x128 : Shape := ⟨2, ![500, 128]⟩
abbrev S128x400 : Shape := ⟨2, ![128, 400]⟩
abbrev S53x400 : Shape := ⟨2, ![53, 400]⟩
abbrev S500x2 : Shape := ⟨2, ![500, 2]⟩
abbrev S500 : Shape := ⟨1, ![500]⟩
abbrev S500x1 : Shape := ⟨2, ![500, 1]⟩
abbrev S500x53 : Shape := ⟨2, ![500, 53]⟩
abbrev S500x17 : Shape := ⟨2, ![500, 17]⟩
abbrev S17x400 : Shape := ⟨2, ![17, 400]⟩
abbrev S2x400 : Shape := ⟨2, ![2, 400]⟩
abbrev S500x400 : Shape := ⟨2, ![500, 400]⟩
abbrev S500x34 : Shape := ⟨2, ![500, 34]⟩
abbrev S34x400 : Shape := ⟨2, ![34, 400]⟩

abbrev nBuf : Space → Nat
  | .hbm => 9
  | .vmem => 11
  | .smem => 0
  | _ => 0

abbrev bufTy : (tb : Table) → Fin (tcTables nBuf tb) → BufTy
  | .hbm, ⟨0, _⟩ => ⟨S8x500x2, .f32⟩
  | .hbm, ⟨1, _⟩ => ⟨S8x500x53, .f32⟩
  | .hbm, ⟨2, _⟩ => ⟨S400, .i32⟩
  | .hbm, ⟨3, _⟩ => ⟨S400x53, .f32⟩
  | .hbm, ⟨4, _⟩ => ⟨S_, .i32⟩
  | .hbm, ⟨5, _⟩ => ⟨S1x400, .i32⟩
  | .hbm, ⟨6, _⟩ => ⟨S_, .f32⟩
  | .hbm, ⟨7, _⟩ => ⟨S1x1, .f32⟩
  | .hbm, ⟨8, _⟩ => ⟨S8x500x400, .f32⟩
  | .local _ .vmem, ⟨0, _⟩ => ⟨S1x500x2, .f32⟩
  | .local _ .vmem, ⟨1, _⟩ => ⟨S1x500x2, .f32⟩
  | .local _ .vmem, ⟨2, _⟩ => ⟨S1x500x53, .f32⟩
  | .local _ .vmem, ⟨3, _⟩ => ⟨S1x500x53, .f32⟩
  | .local _ .vmem, ⟨4, _⟩ => ⟨S400x53, .f32⟩
  | .local _ .vmem, ⟨5, _⟩ => ⟨S1x400, .i32⟩
  | .local _ .vmem, ⟨6, _⟩ => ⟨S1x1, .f32⟩
  | .local _ .vmem, ⟨7, _⟩ => ⟨S1x500x400, .f32⟩
  | .local _ .vmem, ⟨8, _⟩ => ⟨S1x500x400, .f32⟩
  | .local _ .vmem, ⟨9, _⟩ => ⟨S500x128, .f32⟩
  | .local _ .vmem, ⟨10, _⟩ => ⟨S128x400, .f32⟩
  | _, _ => ⟨S8x500x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x500x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x500x53 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S400x53 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x400 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x500x400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x500x2 : Shape := ⟨3, ![8, 500, 2]⟩
abbrev S8x500x53 : Shape := ⟨3, ![8, 500, 53]⟩
abbrev S400 : Shape := ⟨1, ![400]⟩
abbrev S400x53 : Shape := ⟨2, ![400, 53]⟩
abbrev S_ : Shape := ⟨0, ![]⟩
abbrev S4000x2 : Shape := ⟨2, ![4000, 2]⟩
abbrev S4000 : Shape := ⟨1, ![4000]⟩
abbrev S4000x1 : Shape := ⟨2, ![4000, 1]⟩
abbrev S4000x53 : Shape := ⟨2, ![4000, 53]⟩
abbrev S4000x34 : Shape := ⟨2, ![4000, 34]⟩
abbrev S4000x17 : Shape := ⟨2, ![4000, 17]⟩
abbrev S400x2 : Shape := ⟨2, ![400, 2]⟩
abbrev S400x34 : Shape := ⟨2, ![400, 34]⟩
abbrev S400x17 : Shape := ⟨2, ![400, 17]⟩
abbrev S400x1x2 : Shape := ⟨3, ![400, 1, 2]⟩
abbrev S1x400x1x1x1x2 : Shape := ⟨6, ![1, 400, 1, 1, 1, 2]⟩
abbrev S1x400x17x1x1x2 : Shape := ⟨6, ![1, 400, 17, 1, 1, 2]⟩
abbrev S400x17x2 : Shape := ⟨3, ![400, 17, 2]⟩
abbrev S4000x1x2 : Shape := ⟨3, ![4000, 1, 2]⟩
abbrev S1x4000x1x1x1x2 : Shape := ⟨6, ![1, 4000, 1, 1, 1, 2]⟩
abbrev S1x4000x17x1x1x2 : Shape := ⟨6, ![1, 4000, 17, 1, 1, 2]⟩
abbrev S4000x17x2 : Shape := ⟨3, ![4000, 17, 2]⟩
abbrev S400x1 : Shape := ⟨2, ![400, 1]⟩
abbrev S4000x400 : Shape := ⟨2, ![4000, 400]⟩
abbrev S4000x1x34 : Shape := ⟨3, ![4000, 1, 34]⟩
abbrev S1x400x34 : Shape := ⟨3, ![1, 400, 34]⟩
abbrev S4000x400x34 : Shape := ⟨3, ![4000, 400, 34]⟩
abbrev S4000x1x17 : Shape := ⟨3, ![4000, 1, 17]⟩
abbrev S1x400x17 : Shape := ⟨3, ![1, 400, 17]⟩
abbrev S4000x400x17 : Shape := ⟨3, ![4000, 400, 17]⟩
abbrev S1x400x2 : Shape := ⟨3, ![1, 400, 2]⟩
abbrev S4000x400x2 : Shape := ⟨3, ![4000, 400, 2]⟩
abbrev S8x500x400 : Shape := ⟨3, ![8, 500, 400]⟩

abbrev nBuf : Space → Nat
  | .hbm => 118
  | .vmem => 0
  | .smem => 0
  | _ => 0

abbrev bufTy : (tb : Table) → Fin (tcTables nBuf tb) → BufTy
  | .hbm, ⟨0, _⟩ => ⟨S8x500x2, .f32⟩
  | .hbm, ⟨1, _⟩ => ⟨S8x500x53, .f32⟩
  | .hbm, ⟨2, _⟩ => ⟨S400, .i32⟩
  | .hbm, ⟨3, _⟩ => ⟨S400x53, .f32⟩
  | .hbm, ⟨4, _⟩ => ⟨S_, .i32⟩
  | .hbm, ⟨5, _⟩ => ⟨S_, .f32⟩
  | .hbm, ⟨6, _⟩ => ⟨S4000x2, .f32⟩
  | .hbm, ⟨7, _⟩ => ⟨S_, .f32⟩
  | .hbm, ⟨8, _⟩ => ⟨S4000, .f32⟩
  | .hbm, ⟨9, _⟩ => ⟨S_, .f32⟩
  | .hbm, ⟨10, _⟩ => ⟨S4000, .f32⟩
  | .hbm, ⟨11, _⟩ => ⟨S4000, .f32⟩
  | .hbm, ⟨12, _⟩ => ⟨S4000x1, .f32⟩
  | .hbm, ⟨13, _⟩ => ⟨S4000x2, .f32⟩
  | .hbm, ⟨14, _⟩ => ⟨S4000x2, .f32⟩
  | .hbm, ⟨15, _⟩ => ⟨S4000x2, .f32⟩
  | .hbm, ⟨16, _⟩ => ⟨S_, .f32⟩
  | .hbm, ⟨17, _⟩ => ⟨S4000, .f32⟩
  | .hbm, ⟨18, _⟩ => ⟨S4000x1, .f32⟩
  | .hbm, ⟨19, _⟩ => ⟨S4000x2, .f32⟩
  | .hbm, ⟨20, _⟩ => ⟨S4000x2, .f32⟩
  | .hbm, ⟨21, _⟩ => ⟨S4000x53, .f32⟩
  | .hbm, ⟨22, _⟩ => ⟨S4000x2, .f32⟩
  | .hbm, ⟨23, _⟩ => ⟨S4000x34, .f32⟩
  | .hbm, ⟨24, _⟩ => ⟨S4000x17, .f32⟩
  | .hbm, ⟨25, _⟩ => ⟨S400x2, .f32⟩
  | .hbm, ⟨26, _⟩ => ⟨S400x34, .f32⟩
  | .hbm, ⟨27, _⟩ => ⟨S400x17, .f32⟩
  | .hbm, ⟨28, _⟩ => ⟨S400x1x2, .f32⟩
  | .hbm, ⟨29, _⟩ => ⟨S1x400x1x1x1x2, .f32⟩
  | .hbm, ⟨30, _⟩ => ⟨S1x400x17x1x1x2, .f32⟩
  | .hbm, ⟨31, _⟩ => ⟨S400x17x2, .f32⟩
  | .hbm, ⟨32, _⟩ => ⟨S400x34, .f32⟩
  | .hbm, ⟨33, _⟩ => ⟨S400x34, .f32⟩
  | .hbm, ⟨34, _⟩ => ⟨S4000x1x2, .f32⟩
  | .hbm, ⟨35, _⟩ => ⟨S1x4000x1x1x1x2, .f32⟩
  | .hbm, ⟨36, _⟩ => ⟨S1x4000x17x1x1x2, .f32⟩
  | .hbm, ⟨37, _⟩ => ⟨S4000x17x2, .f32⟩
  | .hbm, ⟨38, _⟩ => ⟨S4000x34, .f32⟩
  | .hbm, ⟨39, _⟩ => ⟨S4000x34, .f32⟩
  | .hbm, ⟨40, _⟩ => ⟨S_, .i32⟩
  | .hbm, ⟨41, _⟩ => ⟨S400, .i32⟩
  | .hbm, ⟨42, _⟩ => ⟨S400, .i1⟩
  | .hbm, ⟨43, _⟩ => ⟨S_, .i32⟩
  | .hbm, ⟨44, _⟩ => ⟨S400, .i32⟩
  | .hbm, ⟨45, _⟩ => ⟨S400, .i32⟩
  | .hbm, ⟨46, _⟩ => ⟨S400, .i32⟩
  | .hbm, ⟨47, _⟩ => ⟨S400x1, .i32⟩
  | .hbm, ⟨48, _⟩ => ⟨S4000x400, .f32⟩
  | .hbm, ⟨49, _⟩ => ⟨S4000x400, .f32⟩
  | .hbm, ⟨50, _⟩ => ⟨S400x17x2, .f32⟩
  | .hbm, ⟨51, _⟩ => ⟨S400x34, .f32⟩
  | .hbm, ⟨52, _⟩ => ⟨S4000x1x34, .f32⟩
  | .hbm, ⟨53, _⟩ => ⟨S1x400x34, .f32⟩
  | .hbm, ⟨54, _⟩ => ⟨S4000x400x34, .f32⟩
  | .hbm, ⟨55, _⟩ => ⟨S4000x400x34, .f32⟩
  | .hbm, ⟨56, _⟩ => ⟨S4000x400x34, .f32⟩
  | .hbm, ⟨57, _⟩ => ⟨S1x400x34, .f32⟩
  | .hbm, ⟨58, _⟩ => ⟨S4000x400x34, .f32⟩
  | .hbm, ⟨59, _⟩ => ⟨S4000x400x34, .f32⟩
  | .hbm, ⟨60, _⟩ => ⟨S4000x400x34, .f32⟩
  | .hbm, ⟨61, _⟩ => ⟨S_, .f32⟩
  | .hbm, ⟨62, _⟩ => ⟨S4000x400, .f32⟩
  | .hbm, ⟨63, _⟩ => ⟨S4000x400, .f32⟩
  | .hbm, ⟨64, _⟩ => ⟨S4000x400, .f32⟩
  | .hbm, ⟨65, _⟩ => ⟨S4000x1x34, .f32⟩
  | .hbm, ⟨66, _⟩ => ⟨S1x400x34, .f32⟩
  | .hbm, ⟨67, _⟩ => ⟨S4000x400x34, .f32⟩
  | .hbm, ⟨68, _⟩ => ⟨S4000x400x34, .f32⟩
  | .hbm, ⟨69, _⟩ => ⟨S4000x400x34, .f32⟩
  | .hbm, ⟨70, _⟩ => ⟨S1x400x34, .f32⟩
  | .hbm, ⟨71, _⟩ => ⟨S4000x400x34, .f32⟩
  | .hbm, ⟨72, _⟩ => ⟨S4000x400x34, .f32⟩
  | .hbm, ⟨73, _⟩ => ⟨S4000x400x34, .f32⟩
  | .hbm, ⟨74, _⟩ => ⟨S_, .f32⟩
  | .hbm, ⟨75, _⟩ => ⟨S4000x400, .f32⟩
  | .hbm, ⟨76, _⟩ => ⟨S4000x400, .f32⟩
  | .hbm, ⟨77, _⟩ => ⟨S4000x400, .f32⟩
  | .hbm, ⟨78, _⟩ => ⟨S4000x1x17, .f32⟩
  | .hbm, ⟨79, _⟩ => ⟨S1x400x17, .f32⟩
  | .hbm, ⟨80, _⟩ => ⟨S4000x400x17, .f32⟩
  | .hbm, ⟨81, _⟩ => ⟨S4000x400x17, .f32⟩
  | .hbm, ⟨82, _⟩ => ⟨S4000x400x17, .f32⟩
  | .hbm, ⟨83, _⟩ => ⟨S4000x400x17, .f32⟩
  | .hbm, ⟨84, _⟩ => ⟨S_, .f32⟩
  | .hbm, ⟨85, _⟩ => ⟨S4000x400, .f32⟩
  | .hbm, ⟨86, _⟩ => ⟨S4000x400, .f32⟩
  | .hbm, ⟨87, _⟩ => ⟨S4000x400, .f32⟩
  | .hbm, ⟨88, _⟩ => ⟨S4000x1x2, .f32⟩
  | .hbm, ⟨89, _⟩ => ⟨S1x400x2, .f32⟩
  | .hbm, ⟨90, _⟩ => ⟨S4000x400x2, .f32⟩
  | .hbm, ⟨91, _⟩ => ⟨S4000x400x2, .f32⟩
  | .hbm, ⟨92, _⟩ => ⟨S4000x400x2, .f32⟩
  | .hbm, ⟨93, _⟩ => ⟨S4000x400x2, .f32⟩
  | .hbm, ⟨94, _⟩ => ⟨S_, .f32⟩
  | .hbm, ⟨95, _⟩ => ⟨S4000x400, .f32⟩
  | .hbm, ⟨96, _⟩ => ⟨S4000x400, .f32⟩
  | .hbm, ⟨97, _⟩ => ⟨S4000x400, .f32⟩
  | .hbm, ⟨98, _⟩ => ⟨S_, .f32⟩
  | .hbm, ⟨99, _⟩ => ⟨S4000x400, .f32⟩
  | .hbm, ⟨100, _⟩ => ⟨S4000x400, .f32⟩
  | .hbm, ⟨101, _⟩ => ⟨S_, .f32⟩
  | .hbm, ⟨102, _⟩ => ⟨S4000x400, .f32⟩
  | .hbm, ⟨103, _⟩ => ⟨S4000x400, .f32⟩
  | .hbm, ⟨104, _⟩ => ⟨S4000x400, .f32⟩
  | .hbm, ⟨105, _⟩ => ⟨S_, .f32⟩
  | .hbm, ⟨106, _⟩ => ⟨S4000x400, .f32⟩
  | .hbm, ⟨107, _⟩ => ⟨S4000x400, .f32⟩
  | .hbm, ⟨108, _⟩ => ⟨S4000x400, .f32⟩
  | .hbm, ⟨109, _⟩ => ⟨S_, .f32⟩
  | .hbm, ⟨110, _⟩ => ⟨S4000x400, .f32⟩
  | .hbm, ⟨111, _⟩ => ⟨S4000x400, .f32⟩
  | .hbm, ⟨112, _⟩ => ⟨S4000x400, .f32⟩
  | .hbm, ⟨113, _⟩ => ⟨S_, .f32⟩
  | .hbm, ⟨114, _⟩ => ⟨S4000x400, .f32⟩
  | .hbm, ⟨115, _⟩ => ⟨S4000x400, .f32⟩
  | .hbm, ⟨116, _⟩ => ⟨S4000x400, .f32⟩
  | .hbm, ⟨117, _⟩ => ⟨S8x500x400, .f32⟩
  | _, _ => ⟨S8x500x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_4 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_7 : Ref sig .tc := ⟨.hbm, 98, rfl⟩
abbrev main_v84 : Ref sig .tc := ⟨.hbm, 99, rfl⟩
abbrev main_v85 : Ref sig .tc := ⟨.hbm, 100, rfl⟩
abbrev main_cst_8 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_9 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_10 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_11 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]
-- ==== Proof.Cost.lean ====
module
public import Idealize.ShloMosaic.Lib.Pointwise
@[expose] public section

noncomputable section

namespace Cert.Cost
open Idealize.ShloMosaic

/-! One entry of the cost matrix, as the two programs compute it: the entry of a prediction (its two class scores `l`
and its 53 keypoint numbers `u`) against a target (its class `id` and its 53 keypoint numbers `v`), with `nb` boxes.
Of the 53 numbers, 0 and 1 are the centre, 2 to 35 the offsets of 17 joints, 36 to 52 the joints' visibilities. -/

/-- The absolute value. -/
def mag (x : EReal) : EReal := max x (-x)

/-- The softmax of two scores, shifted by their maximum. -/
def soft (l : Fin 2 → EReal) (k : Fin 2) : EReal :=
  Ideal.div (Ideal.exp (l k - Finset.fold max (Ideal.ofBits .f32 0xFF800000#32) l Finset.univ))
    (∑ x, Ideal.exp (l x - Finset.fold max (Ideal.ofBits .f32 0xFF800000#32) l Finset.univ))

/-- The kernel's indicator of class `c`: the comparison's bit, as a float. -/
def hot (id c : BitVec 32) : EReal :=
  FloatOps.sitofp (F := Ideal) .f32 (BitVec.setWidth 32 (IntOp.cmpi .eq id c))

/-- The kernel's weight 0.2 over the number of boxes. -/
def wVis (nb : EReal) : EReal := Ideal.ofBits .f32 0x3E4CCCCD#32 * Ideal.div 1 nb

/-- The kernel's weight 0.5 over the number of boxes. -/
def wHalf (nb : EReal) : EReal := Ideal.ofBits .f32 0x3F000000#32 * Ideal.div 1 nb

/-- The weighted sum of squares of a vector's visibilities and centre, as the kernel packs it. -/
def squares (u : Fin 53 → EReal) (nb : EReal) : EReal :=
  wVis nb * ∑ x : Fin 17, u ⟨36 + x.val, by omega⟩ * u ⟨36 + x.val, by omega⟩
    + wHalf nb * ∑ x : Fin 2, u ⟨x.val, by omega⟩ * u ⟨x.val, by omega⟩

/-- The scaled difference of coordinate `j`, as the kernel's sweep takes it. -/
def gap (u v : Fin 53 → EReal) (nb : EReal) (j : Fin 53) : EReal := u j * wHalf nb - v j * wHalf nb

/-- What the kernel's sweep adds for joint `k`. -/
def jointTerm (u v : Fin 53 → EReal) (nb : EReal) (k : Fin 17) : EReal :=
  (mag (gap u v nb ⟨2 + 2 * k.val, by omega⟩) + mag (gap u v nb ⟨3 + 2 * k.val, by omega⟩)
    + Ideal.ofBits .f32 0x41000000#32
      * (mag (gap u v nb ⟨2 + 2 * k.val, by omega⟩ + gap u v nb 0) + mag (gap u v nb ⟨3 + 2 * k.val, by omega⟩ + gap u v nb 1)))
    * v ⟨36 + k.val, by omega⟩

/-- The product of the packed factors: visibilities, centres, the two sums of squares, the classes. -/
def packed (l : Fin 2 → EReal) (u v : Fin 53 → EReal) (id : BitVec 32) (nb : EReal) : EReal :=
  (∑ k : Fin 17, Ideal.ofBits .f32 0xC0000000#32 * wVis nb * u ⟨36 + k.val, by omega⟩ * v ⟨36 + k.val, by omega⟩)
    + (∑ k : Fin 2, Ideal.ofBits .f32 0xC0000000#32 * wHalf nb * u ⟨k.val, by omega⟩ * v ⟨k.val, by omega⟩)
    + squares u nb * 1 + 1 * squares v nb
    + ((0 - soft l 0) * hot id 0#32 + (0 - soft l 1) * hot id 1#32)

/-- The kernel's entry: the product of the packed factors, and the sweep over the joints. -/
def kernelCost (l : Fin 2 → EReal) (u v : Fin 53 → EReal) (id : BitVec 32) (nb : EReal) : EReal :=
  packed l u v id nb + ∑ k : Fin 17, jointTerm u v nb k

/-- The reference's sum of squared differences over the visibilities. -/
def visLoss (u v : Fin 53 → EReal) : EReal :=
  ∑ x : Fin 17, (u ⟨36 + x.val, by omega⟩ - v ⟨36 + x.val, by omega⟩) * (u ⟨36 + x.val, by omega⟩ - v ⟨36 + x.val, by omega⟩)

/-- The reference's sum of squared differences over the centre. -/
def ctrLoss (u v : Fin 53 → EReal) : EReal :=
  ∑ x : Fin 2, (u ⟨x.val, by omega⟩ - v ⟨x.val, by omega⟩) * (u ⟨x.val, by omega⟩ - v ⟨x.val, by omega⟩)

/-- The reference's sum of visible absolute differences of offsets. -/
def offLoss (u v : Fin 53 → EReal) : EReal :=
  ∑ x : Fin 34, mag ((u ⟨2 + x.val, by omega⟩ - v ⟨2 + x.val, by omega⟩) * v ⟨36 + x.val / 2, by omega⟩)

/-- The reference's sum of visible absolute differences of positions, a position being the centre plus the offset. -/
def absLoss (u v : Fin 53 → EReal) : EReal :=
  ∑ x : Fin 34, mag ((u ⟨x.val % 2, by omega⟩ + u ⟨2 + x.val, by omega⟩ - (v ⟨x.val % 2, by omega⟩ + v ⟨2 + x.val, by omega⟩))
    * v ⟨36 + x.val / 2, by omega⟩)

/-- The reference's entry, for a target of class `c`. -/
def refCost (l : Fin 2 → EReal) (u v : Fin 53 → EReal) (c : Fin 2) (nb : EReal) : EReal :=
  -soft l c + Ideal.ofBits .f32 0x3F000000#32 * Ideal.div (offLoss u v) nb
    + Ideal.ofBits .f32 0x3E4CCCCD#32 * Ideal.div (visLoss u v) nb
    + Ideal.ofBits .f32 0x3F000000#32 * Ideal.div (ctrLoss u v) nb
    + Ideal.ofBits .f32 0x40800000#32 * Ideal.div (absLoss u v) nb

end Cert.Cost
-- ==== Proof.Factors.lean ====
module
public import proofs.«01_k».proof.Proof.Gen.KernelIdeal.Value
public import Idealize.ShloMosaic.Lib.Pointwise
public import Idealize.ShloMosaic.Lib.WholeRead
public import proofs.«01_k».proof.Proof.Cost
@[expose] public section

set_option maxRecDepth 16384
noncomputable section

namespace Cert.Cost
open Cert.KernelIdeal Cert.KernelIdeal.Gen Idealize.ShloMosaic Idealize.ShloMosaic.TcCoe Idealize.SL.Sem Idealize.ShloMosaic.Tactic

/-- Under the last store the buffer holds that store's payload. -/
theorem canon_hit {Val : EltTy → Type} [∀ e, Nonempty (Val e)] {S : Shape} {e : EltTy} {off size : Fin S.rank → Nat}
    {inb : ∀ a, off a + size a ≤ S.size a} {w : (Rect.unit off size inb).shape.Idx → Val e} {L : List (View.Piece Val S e)}
    {y : S.Idx} (x : (Rect.unit off size inb).shape.Idx) (h : ∀ a, (y a).val = off a + (x a).val) :
    View.canon (⟨Rect.unit off size inb, w⟩ :: L) y = w x := by
  have e1 : y = (Rect.unit off size inb).emb x := by
    funext a
    apply Fin.ext
    rw [h a]
    show _ = off a + 1 * (x a).val
    omega
  rw [e1]
  exact View.canon_cons_emb _ w L x

/-- Off the last store, on one axis, the buffer holds what the earlier stores left. -/
theorem canon_miss {Val : EltTy → Type} [∀ e, Nonempty (Val e)] {S : Shape} {e : EltTy} {off size : Fin S.rank → Nat}
    {inb : ∀ a, off a + size a ≤ S.size a} {w : (Rect.unit off size inb).shape.Idx → Val e} {L : List (View.Piece Val S e)}
    {y : S.Idx} (a : Fin S.rank) (h : (y a).val < off a ∨ off a + size a ≤ (y a).val) :
    View.canon (⟨Rect.unit off size inb, w⟩ :: L) y = View.canon L y := by
  refine View.canon_cons_of_not_mem _ _ fun hm => ?_
  have := (Rect.mem_set_unit (inb := inb)).mp hm a
  omega

/-- The stores into the left factor's buffer, the last one first. -/
def leftStores (x0 : Vec Ideal S1x500x2 .f32) (x1 : Vec Ideal S1x500x53 .f32) (x4 : Vec Ideal S1x1 .f32) :
    List (View.Piece (Elt Ideal) S500x128 .f32) :=
  [⟨Rect.unit ![0, 21] S500x2.size inb_S500x128_S500x2_0_21, k0_pay19 (k0_pay5 x0)⟩,
   ⟨Rect.unit ![0, 20] S500x1.size inb_S500x128_S500x1_0_20, k0_pay18 (F := Ideal)⟩,
   ⟨Rect.unit ![0, 19] S500x1.size inb_S500x128_S500x1_0_19, k0_pay17 (k0_pay6 x4) (k0_pay7 x4) (k0_pay9 x1) (k0_pay10 x1)⟩,
   ⟨Rect.unit ![0, 17] S500x2.size inb_S500x128_S500x2_0_17, k0_pay16 (k0_pay7 x4) (k0_pay10 x1)⟩,
   ⟨Rect.unit ![0, 0] S500x17.size inb_S500x128_S500x17_0_0, k0_pay15 (k0_pay14 x4 x1)⟩,
   ⟨Rect.unit ![0, 0] S500x128.size inb_S500x128_S500x128_0_0, k0_pay13 (F := Ideal)⟩]

/-- The stores into the right factor's buffer, the last one first. -/
def rightStores (x2 : Vec Ideal S400x53 .f32) (x3 : Vec Ideal S1x400 .i32) (x4 : Vec Ideal S1x1 .f32) :
    List (View.Piece (Elt Ideal) S128x400 .f32) :=
  [⟨Rect.unit ![22, 0] S1x400.size inb_S128x400_S1x400_22_0, k0_pay26 (F := Ideal) (k0_pay4 (F := Ideal) x3)⟩,
   ⟨Rect.unit ![21, 0] S1x400.size inb_S128x400_S1x400_21_0, k0_pay25 (F := Ideal) (k0_pay4 (F := Ideal) x3)⟩,
   ⟨Rect.unit ![20, 0] S1x400.size inb_S128x400_S1x400_20_0, k0_pay24 (k0_pay6 x4) (k0_pay7 x4) (k0_pay11 x2) (k0_pay12 x2)⟩,
   ⟨Rect.unit ![19, 0] S1x400.size inb_S128x400_S1x400_19_0, k0_pay23 (F := Ideal)⟩,
   ⟨Rect.unit ![17, 0] S2x400.size inb_S128x400_S2x400_17_0, k0_pay22 (k0_pay12 x2)⟩,
   ⟨Rect.unit ![0, 0] S17x400.size inb_S128x400_S17x400_0_0, k0_pay21 (k0_pay11 x2)⟩,
   ⟨Rect.unit ![0, 0] S128x400.size inb_S128x400_S128x400_0_0, k0_pay20 (F := Ideal)⟩]

section Right
variable (x2 : Vec Ideal S400x53 .f32) (x3 : Vec Ideal S1x400 .i32) (x4 : Vec Ideal S1x1 .f32) (t : Fin 400)

/-- Rows 0 to 16 of the right factor hold the targets' visibilities. -/
theorem right_vis (k : Fin 17) : View.canon (rightStores x2 x3 x4) (ix2 ⟨k.val, by omega⟩ t) = x2 (ix2 t ⟨36 + k.val, by omega⟩) := by
  unfold rightStores
  rw [canon_miss (S := S128x400) 0 (Or.inl (show k.val < 22 by omega)), canon_miss (S := S128x400) 0 (Or.inl (show k.val < 21 by omega)),
    canon_miss (S := S128x400) 0 (Or.inl (show k.val < 20 by omega)), canon_miss (S := S128x400) 0 (Or.inl (show k.val < 19 by omega)),
    canon_miss (S := S128x400) 0 (Or.inl (show k.val < 17 by omega))]
  refine Eq.trans (canon_hit ?x ?h) ?g
  case x => exact ix2 k t
  case h => intro a; fin_cases a <;> simp [ix2]
  unfold_payloads
  pointwise

/-- Rows 17 and 18 of the right factor hold the targets' centres. -/
theorem right_ctr (k : Fin 2) : View.canon (rightStores x2 x3 x4) (ix2 ⟨17 + k.val, by omega⟩ t) = x2 (ix2 t ⟨k.val, by omega⟩) := by
  unfold rightStores
  rw [canon_miss (S := S128x400) 0 (Or.inl (show 17 + k.val < 22 by omega)), canon_miss (S := S128x400) 0 (Or.inl (show 17 + k.val < 21 by omega)),
    canon_miss (S := S128x400) 0 (Or.inl (show 17 + k.val < 20 by omega)), canon_miss (S := S128x400) 0 (Or.inl (show 17 + k.val < 19 by omega))]
  refine Eq.trans (canon_hit ?x ?h) ?g
  case x => exact ix2 k t
  case h => intro a; fin_cases a <;> simp [ix2]
  unfold_payloads
  pointwise

/-- Row 19 of the right factor holds ones. -/
theorem right_one : View.canon (rightStores x2 x3 x4) (ix2 19 t) = 1 := by
  unfold rightStores
  rw [canon_miss (S := S128x400) 0 (Or.inl (show 19 < 22 by omega)), canon_miss (S := S128x400) 0 (Or.inl (show 19 < 21 by omega)),
    canon_miss (S := S128x400) 0 (Or.inl (show 19 < 20 by omega))]
  refine Eq.trans (canon_hit ?x ?h) ?g
  case x => exact ix2 0 t
  case h => intro a; fin_cases a <;> simp [ix2]
  unfold_payloads
  pointwise

/-- Row 20 of the right factor holds the targets' weighted sums of squares. -/
theorem right_squares : View.canon (rightStores x2 x3 x4) (ix2 20 t) = squares (fun i => x2 (ix2 t i)) (x4 (ix2 0 0)) := by
  unfold rightStores
  rw [canon_miss (S := S128x400) 0 (Or.inl (show 20 < 22 by omega)), canon_miss (S := S128x400) 0 (Or.inl (show 20 < 21 by omega))]
  refine Eq.trans (canon_hit ?x ?h) ?g
  case x => exact ix2 0 t
  case h => intro a; fin_cases a <;> simp [ix2]
  unfold_payloads
  pointwise
  rfl

/-- Row 21 of the right factor holds the indicator of class 0. -/
theorem right_class0 : View.canon (rightStores x2 x3 x4) (ix2 21 t) = hot (x3 (ix2 0 t)) 0#32 := by
  unfold rightStores
  rw [canon_miss (S := S128x400) 0 (Or.inl (show 21 < 22 by omega))]
  refine Eq.trans (canon_hit ?x ?h) ?g
  case x => exact ix2 0 t
  case h => intro a; fin_cases a <;> simp [ix2]
  unfold_payloads
  pointwise
  rfl

/-- Row 22 of the right factor holds the indicator of class 1. -/
theorem right_class1 : View.canon (rightStores x2 x3 x4) (ix2 22 t) = hot (x3 (ix2 0 t)) 1#32 := by
  unfold rightStores
  refine Eq.trans (canon_hit ?x ?h) ?g
  case x => exact ix2 0 t
  case h => intro a; fin_cases a <;> simp [ix2]
  unfold_payloads
  pointwise
  rfl
end Right

section Left
variable (x0 : Vec Ideal S1x500x2 .f32) (x1 : Vec Ideal S1x500x53 .f32) (x4 : Vec Ideal S1x1 .f32) (q : Fin 500)

/-- Columns 0 to 16 of the left factor hold the predictions' visibilities, times minus two and their weight. -/
theorem left_vis (k : Fin 17) : View.canon (leftStores x0 x1 x4) (ix2 q ⟨k.val, by omega⟩)
    = Ideal.ofBits .f32 0xC0000000#32 * wVis (x4 (ix2 0 0))
      * x1 (ix3 0 q ⟨36 + k.val, by omega⟩) := by
  unfold leftStores
  rw [canon_miss (S := S500x128) 1 (Or.inl (show k.val < 21 by omega)), canon_miss (S := S500x128) 1 (Or.inl (show k.val < 20 by omega)),
    canon_miss (S := S500x128) 1 (Or.inl (show k.val < 19 by omega)), canon_miss (S := S500x128) 1 (Or.inl (show k.val < 17 by omega))]
  refine Eq.trans (canon_hit ?x ?h) ?g
  case x => exact (ix2 q k)
  case h => intro a; fin_cases a <;> simp [ix2]
  unfold wVis
  unfold_payloads
  pointwise

/-- Columns 17 and 18 of the left factor hold the predictions' centres, times minus two and their weight. -/
theorem left_ctr (k : Fin 2) : View.canon (leftStores x0 x1 x4) (ix2 q ⟨17 + k.val, by omega⟩)
    = Ideal.ofBits .f32 0xC0000000#32 * wHalf (x4 (ix2 0 0))
      * x1 (ix3 0 q ⟨k.val, by omega⟩) := by
  unfold leftStores
  rw [canon_miss (S := S500x128) 1 (Or.inl (show 17 + k.val < 21 by omega)), canon_miss (S := S500x128) 1 (Or.inl (show 17 + k.val < 20 by omega)),
    canon_miss (S := S500x128) 1 (Or.inl (show 17 + k.val < 19 by omega))]
  refine Eq.trans (canon_hit ?x ?h) ?g
  case x => exact (ix2 q k)
  case h => intro a; fin_cases a <;> simp [ix2]
  unfold wHalf
  unfold_payloads
  pointwise

/-- Column 19 of the left factor holds the predictions' weighted sums of squares. -/
theorem left_squares : View.canon (leftStores x0 x1 x4) (ix2 q 19)
    = squares (fun i => x1 (ix3 0 q i)) (x4 (ix2 0 0)) := by
  unfold leftStores
  rw [canon_miss (S := S500x128) 1 (Or.inl (show 19 < 21 by omega)), canon_miss (S := S500x128) 1 (Or.inl (show 19 < 20 by omega))]
  refine Eq.trans (canon_hit ?x ?h) ?g
  case x => exact (ix2 q 0)
  case h => intro a; fin_cases a <;> simp [ix2]
  unfold_payloads
  pointwise
  rfl

/-- Column 20 of the left factor holds ones. -/
theorem left_one : View.canon (leftStores x0 x1 x4) (ix2 q 20) = 1 := by
  unfold leftStores
  rw [canon_miss (S := S500x128) 1 (Or.inl (show 20 < 21 by omega))]
  refine Eq.trans (canon_hit ?x ?h) ?g
  case x => exact (ix2 q 0)
  case h => intro a; fin_cases a <;> simp [ix2]
  unfold_payloads
  pointwise

/-- Columns 21 and 22 of the left factor hold the negated class probabilities. -/
theorem left_class (k : Fin 2) : View.canon (leftStores x0 x1 x4) (ix2 q ⟨21 + k.val, by omega⟩)
    = 0 - soft (fun c => x0 (ix3 0 q c)) k := by
  unfold leftStores
  refine Eq.trans (canon_hit ?x ?h) ?g
  case x => exact (ix2 q k)
  case h => intro a; fin_cases a <;> simp [ix2]
  unfold_payloads
  pointwise
  rfl

/-- The columns of the left factor from 23 on are zero. -/
theorem left_rest (k : Fin 128) (h : 23 ≤ k.val) : View.canon (leftStores x0 x1 x4) (ix2 q k) = 0 := by
  unfold leftStores
  rw [canon_miss (S := S500x128) 1 (Or.inr (show 21 + 2 ≤ k.val by omega)),
    canon_miss (S := S500x128) 1 (Or.inr (show 20 + 1 ≤ k.val by omega)),
    canon_miss (S := S500x128) 1 (Or.inr (show 19 + 1 ≤ k.val by omega)),
    canon_miss (S := S500x128) 1 (Or.inr (show 17 + 2 ≤ k.val by omega)),
    canon_miss (S := S500x128) 1 (Or.inr (show 0 + 17 ≤ k.val by omega))]
  refine Eq.trans (canon_hit ?x ?h) ?g
  case x => exact (ix2 q k)
  case h => intro a; fin_cases a <;> simp [ix2]
  unfold_payloads
  pointwise
end Left

end Cert.Cost
-- ==== Proof.Product.lean ====
module
public import proofs.«01_k».proof.Proof.Factors
@[expose] public section

set_option maxRecDepth 16384
noncomputable section

namespace Cert.Cost
open Cert.KernelIdeal Cert.KernelIdeal.Gen Idealize.ShloMosaic Idealize.ShloMosaic.TcCoe Idealize.SL.Sem Idealize.ShloMosaic.Tactic

/-- A sum over 128 columns whose columns from 23 on are zero: 17 columns, two, one, one, and two. -/
theorem sum_cols (f : Fin 128 → EReal) (h : ∀ k : Fin 128, 23 ≤ k.val → f k = 0) :
    ∑ k, f k = (∑ k : Fin 17, f ⟨k.val, by omega⟩) + (∑ k : Fin 2, f ⟨17 + k.val, by omega⟩) + f 19 + f 20 + (f 21 + f 22) := by
  have e1 : ∑ k, f k = (∑ k : Fin 17, f ⟨k.val, by omega⟩) + ∑ k : Fin 111, f ⟨17 + k.val, by omega⟩ :=
    Fin.sum_univ_add (a := 17) (b := 111) f
  have e2 : ∑ k : Fin 111, f ⟨17 + k.val, by omega⟩
      = (∑ k : Fin 2, f ⟨17 + k.val, by omega⟩) + ∑ k : Fin 109, f ⟨17 + (2 + k.val), by omega⟩ :=
    Fin.sum_univ_add (a := 2) (b := 109) fun k : Fin 111 => f ⟨17 + k.val, by omega⟩
  have e3 : ∑ k : Fin 109, f ⟨17 + (2 + k.val), by omega⟩
      = (∑ k : Fin 4, f ⟨17 + (2 + k.val), by omega⟩) + ∑ k : Fin 105, f ⟨17 + (2 + (4 + k.val)), by omega⟩ :=
    Fin.sum_univ_add (a := 4) (b := 105) fun k : Fin 109 => f ⟨17 + (2 + k.val), by omega⟩
  have e4 : ∑ k : Fin 105, f ⟨17 + (2 + (4 + k.val)), by omega⟩ = 0 :=
    Finset.sum_eq_zero fun k _ => h _ (show 23 ≤ 17 + (2 + (4 + k.val)) by omega)
  have e5 : ∑ k : Fin 4, f ⟨17 + (2 + k.val), by omega⟩ = f 19 + f 20 + f 21 + f 22 := Fin.sum_univ_four _
  rw [e1, e2, e3, e4, e5, add_zero]
  simp only [add_assoc]

/-- What the stores leave in the two factors' buffers, multiplied: row `q` of the left against column `t` of the right. -/
theorem product_eq (x0 : Vec Ideal S1x500x2 .f32) (x1 : Vec Ideal S1x500x53 .f32) (x2 : Vec Ideal S400x53 .f32)
    (x3 : Vec Ideal S1x400 .i32) (x4 : Vec Ideal S1x1 .f32) (q : Fin 500) (t : Fin 400) :
    ∑ k : Fin 128, View.canon (leftStores x0 x1 x4) (ix2 q k) * View.canon (rightStores x2 x3 x4) (ix2 k t)
      = packed (fun c => x0 (ix3 0 q c)) (fun i => x1 (ix3 0 q i)) (fun i => x2 (ix2 t i)) (x3 (ix2 0 t)) (x4 (ix2 0 0)) := by
  have c0 : View.canon (leftStores x0 x1 x4) (ix2 q 21) = 0 - soft (fun c => x0 (ix3 0 q c)) 0 := left_class x0 x1 x4 q 0
  have c1 : View.canon (leftStores x0 x1 x4) (ix2 q 22) = 0 - soft (fun c => x0 (ix3 0 q c)) 1 := left_class x0 x1 x4 q 1
  rw [sum_cols _ fun k hk => by rw [left_rest x0 x1 x4 q k hk]; exact zero_mul _]
  simp only [left_vis, left_ctr, left_squares, left_one, c0, c1, right_vis, right_ctr, right_one, right_squares, right_class0,
    right_class1]
  rfl

end Cert.Cost
-- ==== Proof.Block.lean ====
module
public import proofs.«01_k».proof.Proof.Gen.KernelIdeal.Value
public import Idealize.ShloMosaic.Lib.Pointwise
public import Idealize.ShloMosaic.Lib.WholeRead
public import proofs.«01_k».proof.Proof.Product
@[expose] public section

set_option maxRecDepth 16384
noncomputable section

namespace Cert.Cost
open Cert.KernelIdeal Cert.KernelIdeal.Gen Idealize.ShloMosaic Idealize.ShloMosaic.TcCoe Idealize.SL.Sem Idealize.ShloMosaic.Tactic

variable {F : FTy → Type} [FloatOps F]

/-- Two zero offsets are the offsets that are zero everywhere. -/
theorem hz2 : (![0, 0] : Fin 2 → Nat) = fun _ => 0 := funext fun a => by fin_cases a <;> rfl

/-- Three zero offsets are the offsets that are zero everywhere. -/
theorem hz3 : (![0, 0, 0] : Fin 3 → Nat) = fun _ => 0 := funext fun a => by fin_cases a <;> rfl

/-- A load of a whole buffer at zero offsets reads the contents. -/
theorem readAt_all {sig : RefSig} {κ : Kind} {sp : Space} {S : Shape} {e : EltTy} {m : Memref sig κ sp S e} (h : m.IsWhole)
    {off : Fin S.rank → Nat} (ho : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero ho]

/-- A load of a whole scratch buffer at zero offsets, after stores into parts of it, reads what the stores left. -/
theorem readCov_all {sig : RefSig} {κ : Kind} {sp : Space} {S : Shape} {e : EltTy} (v : View sig κ sp S e)
    {off : Fin S.rank → Nat} (ho : off = fun _ => 0) (inb : ∀ a, off a + S.size a ≤ S.size a)
    (L : List (View.Piece (Elt F) S e)) :
    v.readCov L (Rect.unit off S.size inb).toLoadRect = View.canon L := by
  rw [View.readCov_eq_canon']
  exact View.ld_unit_zero ho inb (View.canon L)

/-- The sum over the 17 joints, added one joint after the other. -/
theorem sum_joints (a : EReal) (f : Fin 17 → EReal) :
    a + f 0 + f 1 + f 2 + f 3 + f 4 + f 5 + f 6 + f 7 + f 8 + f 9 + f 10 + f 11 + f 12 + f 13 + f 14 + f 15 + f 16 = a + ∑ k, f k := by
  have e : ∑ k, f k
      = f 0 + f 1 + f 2 + f 3 + f 4 + f 5 + f 6 + f 7 + f 8 + f 9 + f 10 + f 11 + f 12 + f 13 + f 14 + f 15 + f 16 := by
    simp only [Fin.sum_univ_castSucc, Fin.sum_univ_zero, zero_add]
    rfl
  rw [e]
  simp only [add_assoc]

/-- What the body leaves in its output block, at prediction `q` and target `t`: the kernel's entry of the staged operands. -/
theorem out_apply (c : Dev nD) (i : grid0.Coords) (arg1 : Memref sig .tc .vmem S1x500x2 .f32) (harg1 : arg1.IsWhole) (arg2 : Memref sig .tc .vmem S1x500x53 .f32) (harg2 : arg2.IsWhole) (arg3 : Memref sig .tc .vmem S400x53 .f32) (harg3 : arg3.IsWhole) (arg4 : Memref sig .tc .vmem S1x400 .i32) (harg4 : arg4.IsWhole) (arg5 : Memref sig .tc .vmem S1x1 .f32) (harg5 : arg5.IsWhole) (arg6 : Memref sig .tc .vmem S1x500x400 .f32) (harg6 : arg6.IsWhole) (arg7 : Memref sig .tc .vmem S500x128 .f32) (harg7 : arg7.IsWhole) (arg8 : Memref sig .tc .vmem S128x400 .f32) (harg8 : arg8.IsWhole)
    (x0 : Vec Ideal S1x500x2 .f32) (x1 : Vec Ideal S1x500x53 .f32) (x2 : Vec Ideal S400x53 .f32) (x3 : Vec Ideal S1x400 .i32) (x4 : Vec Ideal S1x1 .f32) (q : Fin 500) (t : Fin 400) :
    out0_A_5 c i arg1 harg1 arg2 harg2 arg3 harg3 arg4 harg4 arg5 harg5 arg6 harg6 arg7 harg7 arg8 harg8 x0 x1 x2 x3 x4 (ix3 0 q t)
      = kernelCost (fun c => x0 (ix3 0 q c)) (fun i => x1 (ix3 0 q i)) (fun i => x2 (ix2 t i)) (x3 (ix2 0 t)) (x4 (ix2 0 0)) := by
  unfold out0_A_5 kernelRun0_A
  dsimp only
  sl_unfold_words
  rw [View.read_writes_junk_eq_canon, View.canon_unit_zero hz3]
  have e0 := readAt_all (F := Ideal) harg1 hz3 inb_S1x500x2_S1x500x2_0_0_0 x0
  have e1 := readAt_all (F := Ideal) harg2 hz3 inb_S1x500x53_S1x500x53_0_0_0 x1
  have e2 := readAt_all (F := Ideal) harg3 hz2 inb_S400x53_S400x53_0_0 x2
  have e3 := readAt_all (F := Ideal) harg4 hz2 inb_S1x400_S1x400_0_0 x3
  have e4 := readAt_all (F := Ideal) harg5 hz2 inb_S1x1_S1x1_0_0 x4
  have e7 := readCov_all (F := Ideal) arg7.view hz2 inb_S500x128_S500x128_0_0
  have e8 := readCov_all (F := Ideal) arg8.view hz2 inb_S128x400_S128x400_0_0
  simp only [e0, e1, e2, e3, e4, e7, e8]
  rw [← leftStores, ← rightStores]
  have hp := product_eq x0 x1 x2 x3 x4 q t
  revert hp
  generalize View.canon (leftStores x0 x1 x4) = A
  generalize View.canon (rightStores x2 x3 x4) = B
  intro hp
  unfold_payloads
  pointwise
  rw [hp]
  have hm : ∀ x : Ideal .f32, FloatOps.absf x = mag x := fun _ => rfl
  simp only [hm]
  exact sum_joints (packed _ _ _ _ _) (jointTerm (fun i => x1 (ix3 0 q i)) (fun i => x2 (ix2 t i)) (x4 (ix2 0 0)))

end Cert.Cost
-- ==== Proof.Array.lean ====
module
public import proofs.«01_k».proof.Proof.Block
public import Idealize.ShloMosaic.Lib.Pipeline.ValueKit
@[expose] public section

set_option maxRecDepth 16384
noncomputable section

namespace Cert.Cost
open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

/-- The array of the kernel's entries, of device `c`'s arguments. -/
def costArray (c : Dev nD) : S8x500x400.Idx → EReal := fun i =>
  kernelCost (fun k => m ((c : Thread nD τ).loc main_arg0) (ix3 (i 0) (i 1) k))
    (fun k => m ((c : Thread nD τ).loc main_arg1) (ix3 (i 0) (i 1) k))
    (fun k => m ((c : Thread nD τ).loc main_arg3) (ix2 (i 2) k))
    (m ((c : Thread nD τ).loc main_arg2) (ix1 (i 2)))
    (FloatOps.sitofp (F := Ideal) .f32 (m ((c : Thread nD τ).loc main_arg4) ix0))

/-- The blocks the index maps name at grid point `t`: block `t` along the batch, the whole of everything else. -/
theorem idx (t : Fin cfg0.N) : win0_0.index t = ![t.val, 0, 0] ∧ win0_1.index t = ![t.val, 0, 0] ∧ win0_2.index t = ![0, 0]
    ∧ win0_3.index t = ![0, 0] ∧ win0_4.index t = ![0, 0] ∧ win0_5.index t = ![t.val, 0, 0] :=
  (by decide +kernel : ∀ t : Fin grid0.N, win0_0.index t = ![t.val, 0, 0] ∧ win0_1.index t = ![t.val, 0, 0] ∧ win0_2.index t = ![0, 0]
    ∧ win0_3.index t = ![0, 0] ∧ win0_4.index t = ![0, 0] ∧ win0_5.index t = ![t.val, 0, 0]) t

section Blocks
variable (c : Dev nD) (t : Fin cfg0.N)

/-- The scores staged at grid point `t` are batch `t`'s. -/
theorem blk0 (ht : t.val < 8) (q : Fin 500) (k : Fin 2) :
    iblk m c 0 t (ix3 0 q k) = m ((c : Thread nD τ).loc main_arg0) (ix3 ⟨t.val, ht⟩ q k) := by
  blk_ext [iblk, V, idx t]

/-- The keypoints staged at grid point `t` are batch `t`'s. -/
theorem blk1 (ht : t.val < 8) (q : Fin 500) (k : Fin 53) :
    iblk m c 1 t (ix3 0 q k) = m ((c : Thread nD τ).loc main_arg1) (ix3 ⟨t.val, ht⟩ q k) := by
  blk_ext [iblk, V, idx t]

/-- The targets' keypoints are staged whole. -/
theorem blk2 (j : Fin 400) (k : Fin 53) :
    iblk m c 2 t (ix2 j k) = m ((c : Thread nD τ).loc main_arg3) (ix2 j k) := by
  blk_ext [iblk, V, idx t]

/-- The targets' classes are staged whole, as one row. -/
theorem blk3 (j : Fin 400) : iblk m c 3 t (ix2 0 j) = m ((c : Thread nD τ).loc main_arg2) (ix1 j) := by
  have e : (win0_3.blk t).view.emb (ix2 0 j) = ix2 0 j := by blk_ext [idx t]
  blk_simp [iblk, V, idx t]
  rw [e]
  entry_read
  pointwise

/-- The number of boxes is staged as one float. -/
theorem blk4 : iblk m c 4 t (ix2 0 0) = FloatOps.sitofp (F := Ideal) .f32 (m ((c : Thread nD τ).loc main_arg4) ix0) := by
  blk_simp [iblk, V, idx t]
  entry_read
  pointwise

end Blocks

/-- AFTER THE RUN the result array holds the kernel's entries. -/
theorem final (c : Dev nD) : (dats m 0 c).arrAt 5 cfg0.N = costArray m c := by
  refine (dats m 0 c).arrAt_eq_of_covers 5 _ (by decide +kernel) fun t hf y => ?_
  blk_simp
  rw [after0_5]
  have ht : t.val < 8 := t.isLt
  obtain ⟨a, q, j, rfl⟩ : ∃ (a : Fin 1) (q : Fin 500) (j : Fin 400), y = ix3 a q j := ⟨_, _, _, eq_ix3 y⟩
  obtain rfl : a = 0 := Subsingleton.elim _ _
  have he : (win0_5.blk t).view.emb (ix3 0 q j) = ix3 ⟨t.val, ht⟩ q j := by
    blk_ext [idx t]
  rw [he]
  unfold outsAt0
  refine (out_apply ..).trans ?_
  unfold costArray
  simp only [blk0 m c t ht, blk1 m c t ht, blk2, blk3, blk4]
  rfl

end Cert.Cost
-- ==== Proof.Consts.lean ====
module
public import Idealize.ShloMosaic.Lib.Pointwise
@[expose] public section

namespace Cert.Cost
open Idealize.ShloMosaic

/-! The numbers the program's float constants denote, and its division by a positive number. -/

/-- The constant 0.5 is one half. -/
theorem half_val : Ideal.ofBits .f32 0x3F000000#32 = ((1 / 2 : ℝ) : EReal) := by
  simp [Ideal.ofBits, Ideal.ieee, -EReal.coe_mul]; norm_num

/-- The constant 8 is eight. -/
theorem eight_val : Ideal.ofBits .f32 0x41000000#32 = ((8 : ℝ) : EReal) := by
  simp [Ideal.ofBits, Ideal.ieee, -EReal.coe_mul]; norm_num

/-- The constant 4 is four. -/
theorem four_val : Ideal.ofBits .f32 0x40800000#32 = ((4 : ℝ) : EReal) := by
  simp [Ideal.ofBits, Ideal.ieee, -EReal.coe_mul]; norm_num

/-- The constant -2 is minus two. -/
theorem negTwo_val : Ideal.ofBits .f32 0xC0000000#32 = ((-2 : ℝ) : EReal) := by
  simp [Ideal.ofBits, Ideal.ieee, -EReal.coe_mul]; norm_num

/-- The constant 0.2 denotes the float nearest to one fifth, `13421773 / 67108864`. -/
theorem fifth_val : Ideal.ofBits .f32 0x3E4CCCCD#32 = ((13421773 / 67108864 : ℝ) : EReal) := by
  simp [Ideal.ofBits, Ideal.ieee, -EReal.coe_mul]; norm_num

/-- The constant the maximum starts from is minus infinity. -/
theorem negInf_val : Ideal.ofBits .f32 0xFF800000#32 = ⊥ := by
  simp [Ideal.ofBits, Ideal.ieee]

/-- The constant the finiteness tests compare with is plus infinity. -/
theorem posInf_val : Ideal.ofBits .f32 0x7F800000#32 = ⊤ := by
  simp [Ideal.ofBits, Ideal.ieee]

/-- Dividing by a positive number is multiplying by its inverse. -/
theorem div_pos_val {n : ℝ} (hn : 0 < n) (x : EReal) : Ideal.div x (n : EReal) = x * ((1 / n : ℝ) : EReal) :=
  Ideal.div_coe hn.ne' x

end Cert.Cost
-- ==== Proof.Equation.lean ====
module
public import proofs.«01_k».proof.Proof.Cost
public import proofs.«01_k».proof.Proof.Consts
@[expose] public section

namespace Cert.Cost
open Idealize.ShloMosaic

/-- A number that is not negative may be distributed over a sum on its left, whatever the summands. -/
theorem add_mul_real (x y : EReal) {r : ℝ} (hr : 0 ≤ r) : (x + y) * (r : EReal) = x * r + y * r :=
  EReal.right_distrib_of_nonneg_of_ne_top (EReal.coe_nonneg.mpr hr) (EReal.coe_ne_top r) x y

/-- The same for a difference. -/
theorem sub_mul_real (x y : EReal) {r : ℝ} (hr : 0 ≤ r) : (x - y) * (r : EReal) = x * r - y * r := by
  rw [sub_eq_add_neg, add_mul_real _ _ hr, EReal.neg_mul, ← sub_eq_add_neg]

/-- The same for a sum over a finite set. -/
theorem sum_mul_real {ι : Type} [Fintype ι] (f : ι → EReal) {r : ℝ} (hr : 0 ≤ r) :
    (∑ i, f i) * (r : EReal) = ∑ i, f i * (r : EReal) := by
  classical
  refine Finset.induction_on (Finset.univ : Finset ι) (by simp) fun a s ha ih => ?_
  rw [Finset.sum_insert ha, Finset.sum_insert ha, add_mul_real _ _ hr, ih]

/-- The absolute value of a product by a number that is not negative. -/
theorem mag_mul_real (x : EReal) {r : ℝ} (hr : 0 ≤ r) : mag (x * (r : EReal)) = mag x * r := by
  have hm : Monotone fun y : EReal => y * (r : EReal) := fun a b h => mul_le_mul_of_nonneg_right h (EReal.coe_nonneg.mpr hr)
  unfold mag
  rw [← EReal.neg_mul]
  exact (hm.map_max (a := x) (b := -x)).symm

/-- A sum over 34 numbers, taken two at a time. -/
theorem sum_pairs (f : Fin 34 → EReal) :
    ∑ x, f x = ∑ k : Fin 17, (f ⟨2 * k.val, by omega⟩ + f ⟨2 * k.val + 1, by omega⟩) := by
  rw [← Equiv.sum_comp (finProdFinEquiv (m := 17) (n := 2)) f, Fintype.sum_prod_type]
  refine Finset.sum_congr rfl fun k _ => ?_
  rw [Fin.sum_univ_two]
  congr 2 <;> (apply Fin.ext; simp [finProdFinEquiv]; try omega)

/-- Differences of positions: with finite centres, the offsets' and the centres' differences may be taken apart. -/
theorem pos_sub (a b : ℝ) (z w : EReal) : ((a : EReal) + z) - ((b : EReal) + w) = (z - w) + ((a : EReal) - b) := by
  rw [sub_eq_add_neg, EReal.neg_add (Or.inl (EReal.coe_ne_bot b)) (Or.inl (EReal.coe_ne_top b)), sub_eq_add_neg, sub_eq_add_neg,
    sub_eq_add_neg, add_add_add_comm, add_comm]

/-- The weight 0.5 over the number of boxes is a number. -/
theorem wHalf_real {n : ℝ} (hn : 0 < n) : wHalf (n : EReal) = ((1 / 2 * (1 / n) : ℝ) : EReal) := by
  unfold wHalf
  rw [half_val, div_pos_val hn, one_mul, ← EReal.coe_mul]

/-- The weight 0.2 over the number of boxes is a number. -/
theorem wVis_real {n : ℝ} (hn : 0 < n) : wVis (n : EReal) = ((13421773 / 67108864 * (1 / n) : ℝ) : EReal) := by
  unfold wVis
  rw [fifth_val, div_pos_val hn, one_mul, ← EReal.coe_mul]

/-- The kernel's term for a joint is its share of the two weighted sums of absolute differences. -/
theorem jointTerm_eq (u v : Fin 53 → EReal) {n : ℝ} (hn : 0 < n) (k : Fin 17) {c d : Fin 2 → ℝ}
    (hc : ∀ j : Fin 2, u ⟨j.val, by omega⟩ = (c j : EReal)) (hd : ∀ j : Fin 2, v ⟨j.val, by omega⟩ = (d j : EReal))
    {g : ℝ} (hg : v ⟨36 + k.val, by omega⟩ = (g : EReal)) (h0 : 0 ≤ g) :
    jointTerm u v n k
      = (mag ((u ⟨2 + 2 * k.val, by omega⟩ - v ⟨2 + 2 * k.val, by omega⟩) * v ⟨36 + k.val, by omega⟩)
          + mag ((u ⟨3 + 2 * k.val, by omega⟩ - v ⟨3 + 2 * k.val, by omega⟩) * v ⟨36 + k.val, by omega⟩)) * ((1 / 2 * (1 / n) : ℝ) : EReal)
        + (mag ((u 0 + u ⟨2 + 2 * k.val, by omega⟩ - (v 0 + v ⟨2 + 2 * k.val, by omega⟩)) * v ⟨36 + k.val, by omega⟩)
          + mag ((u 1 + u ⟨3 + 2 * k.val, by omega⟩ - (v 1 + v ⟨3 + 2 * k.val, by omega⟩)) * v ⟨36 + k.val, by omega⟩)) * ((4 * (1 / n) : ℝ) : EReal) := by
  have hi : (0 : ℝ) ≤ 1 / n := by positivity
  have hh : (0 : ℝ) ≤ 1 / 2 * (1 / n) := by positivity
  have h4 : (0 : ℝ) ≤ 4 * (1 / n) := by positivity
  have c0 : u 0 = (c 0 : EReal) := hc 0
  have c1 : u 1 = (c 1 : EReal) := hc 1
  have d0 : v 0 = (d 0 : EReal) := hd 0
  have d1 : v 1 = (d 1 : EReal) := hd 1
  have h8 : ((1 / 2 * (1 / n) : ℝ) : EReal) * ((8 : ℝ) : EReal) = ((4 * (1 / n) : ℝ) : EReal) := by
    rw [← EReal.coe_mul]; congr 1; ring
  unfold jointTerm gap
  rw [wHalf_real hn, eight_val, hg]
  simp only [← sub_mul_real _ _ hh, ← add_mul_real _ _ hh, mag_mul_real _ hh, mag_mul_real _ h0]
  rw [c0, c1, d0, d1, pos_sub, pos_sub]
  generalize mag _ = A0
  generalize mag _ = A1
  generalize mag _ = B0
  generalize mag _ = B1
  rw [mul_comm ((8 : ℝ) : EReal), mul_assoc (B0 + B1), h8, add_mul_real _ _ h0, ← add_mul_real A0 _ h0, ← add_mul_real B0 _ h0,
    mul_right_comm (A0 + A1), mul_right_comm (B0 + B1)]

/-- The sweep over the joints is the two weighted sums of absolute differences. -/
theorem sweep_eq (u v : Fin 53 → EReal) {n : ℝ} (hn : 0 < n) {c d : Fin 2 → ℝ} {g : Fin 17 → ℝ}
    (hc : ∀ j : Fin 2, u ⟨j.val, by omega⟩ = (c j : EReal)) (hd : ∀ j : Fin 2, v ⟨j.val, by omega⟩ = (d j : EReal))
    (hg : ∀ k : Fin 17, v ⟨36 + k.val, by omega⟩ = (g k : EReal)) (h0 : ∀ k, 0 ≤ g k) :
    ∑ k, jointTerm u v n k
      = Ideal.ofBits .f32 0x3F000000#32 * Ideal.div (offLoss u v) n + Ideal.ofBits .f32 0x40800000#32 * Ideal.div (absLoss u v) n := by
  have hh : (0 : ℝ) ≤ 1 / 2 * (1 / n) := by positivity
  have h4 : (0 : ℝ) ≤ 4 * (1 / n) := by positivity
  rw [half_val, four_val, div_pos_val hn, div_pos_val hn, mul_left_comm, mul_left_comm ((4 : ℝ) : EReal), ← EReal.coe_mul, ← EReal.coe_mul]
  unfold offLoss absLoss
  rw [sum_pairs, sum_pairs, sum_mul_real _ hh, sum_mul_real _ h4, ← Finset.sum_add_distrib]
  refine Finset.sum_congr rfl fun k _ => ?_
  rw [jointTerm_eq u v hn k hc hd (hg k) (h0 k)]
  have e1 : 2 * k.val / 2 = k.val := by omega
  have e2 : (2 * k.val + 1) / 2 = k.val := by omega
  have e3 : 2 * k.val % 2 = 0 := by omega
  have e4 : (2 * k.val + 1) % 2 = 1 := by omega
  have e5 : 2 + (2 * k.val + 1) = 3 + 2 * k.val := by omega
  simp only [e1, e2, e3, e4, e5]
  rfl

/-- Expanding the squares, over the reals. -/
theorem expand (w : ℝ) {ι : Type} [Fintype ι] (a b : ι → ℝ) :
    w * ∑ x, (a x - b x) * (a x - b x) = (∑ x, -2 * w * a x * b x) + w * ∑ x, a x * a x + w * ∑ x, b x * b x := by
  rw [Finset.mul_sum, Finset.mul_sum, Finset.mul_sum, ← Finset.sum_add_distrib, ← Finset.sum_add_distrib]
  exact Finset.sum_congr rfl fun x _ => by ring

/-- A finite sum of real numbers is the same sum among the extended reals. -/
theorem coe_sum_real {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

/-- The packed squares are the two weighted sums of squared differences. -/
theorem squares_eq (u v : Fin 53 → EReal) {n : ℝ} (hn : 0 < n) {c d : Fin 2 → ℝ} {f g : Fin 17 → ℝ}
    (hc : ∀ j : Fin 2, u ⟨j.val, by omega⟩ = (c j : EReal)) (hd : ∀ j : Fin 2, v ⟨j.val, by omega⟩ = (d j : EReal))
    (hf : ∀ k : Fin 17, u ⟨36 + k.val, by omega⟩ = (f k : EReal)) (hg : ∀ k : Fin 17, v ⟨36 + k.val, by omega⟩ = (g k : EReal)) :
    (∑ k : Fin 17, Ideal.ofBits .f32 0xC0000000#32 * wVis n * u ⟨36 + k.val, by omega⟩ * v ⟨36 + k.val, by omega⟩)
      + (∑ k : Fin 2, Ideal.ofBits .f32 0xC0000000#32 * wHalf n * u ⟨k.val, by omega⟩ * v ⟨k.val, by omega⟩)
      + squares u n * 1 + 1 * squares v n
    = Ideal.ofBits .f32 0x3E4CCCCD#32 * Ideal.div (visLoss u v) n + Ideal.ofBits .f32 0x3F000000#32 * Ideal.div (ctrLoss u v) n := by
  rw [div_pos_val hn, div_pos_val hn, mul_one, one_mul]
  unfold squares visLoss ctrLoss
  simp only [hc, hd, hf, hg, wVis_real hn, wHalf_real hn, negTwo_val, half_val, fifth_val, ← EReal.coe_mul, ← EReal.coe_sub,
    ← coe_sum_real, ← EReal.coe_add]
  congr 1
  have e1 := expand (13421773 / 67108864 * (1 / n)) f g
  have e2 := expand (1 / 2 * (1 / n)) c d
  linarith

/-- The indicator columns pick the score of the target's class. -/
theorem class_eq (l : Fin 2 → EReal) (id : BitVec 32) (c : Fin 2) (h : id = BitVec.ofNat 32 c.val) :
    (0 - soft l 0) * hot id 0#32 + (0 - soft l 1) * hot id 1#32 = -soft l c := by
  have one : hot 0#32 0#32 = 1 ∧ hot 1#32 1#32 = 1 := by
    constructor <;> (show (((1 : ℤ) : ℝ) : EReal) = 1; simp)
  have zero : hot 0#32 1#32 = 0 ∧ hot 1#32 0#32 = 0 := by
    constructor <;> (show (((0 : ℤ) : ℝ) : EReal) = 0; simp)
  subst h
  fin_cases c
  · show (0 - soft l 0) * hot 0#32 0#32 + (0 - soft l 1) * hot 0#32 1#32 = -soft l 0
    rw [one.1, zero.1, mul_one, mul_zero, add_zero, sub_eq_add_neg, zero_add]
  · show (0 - soft l 0) * hot 1#32 0#32 + (0 - soft l 1) * hot 1#32 1#32 = -soft l 1
    rw [one.2, zero.2, mul_one, mul_zero, zero_add, sub_eq_add_neg, zero_add]

/-- THE EQUATION: for a target whose class is a class number, a positive number of boxes, finite centres and
    visibilities, and target visibilities that are not negative, the kernel's entry is the reference's. -/
theorem cost_eq (l : Fin 2 → EReal) (u v : Fin 53 → EReal) (id : BitVec 32) (ci : Fin 2) (h : id = BitVec.ofNat 32 ci.val)
    {n : ℝ} (hn : 0 < n) {c d : Fin 2 → ℝ} {f g : Fin 17 → ℝ}
    (hc : ∀ j : Fin 2, u ⟨j.val, by omega⟩ = (c j : EReal)) (hd : ∀ j : Fin 2, v ⟨j.val, by omega⟩ = (d j : EReal))
    (hf : ∀ k : Fin 17, u ⟨36 + k.val, by omega⟩ = (f k : EReal)) (hg : ∀ k : Fin 17, v ⟨36 + k.val, by omega⟩ = (g k : EReal))
    (h0 : ∀ k, 0 ≤ g k) : kernelCost l u v id n = refCost l u v ci n := by
  unfold kernelCost packed refCost
  rw [squares_eq u v hn hc hd hf hg, class_eq l id ci h, sweep_eq u v hn hc hd hg h0]
  ac_rfl

end Cert.Cost
-- ==== Proof.RefValue.lean ====
module
public import proofs.«01_k».proof.Proof.Gen.ReferenceIdeal.Read
public import Idealize.ShloMosaic.Lib.Pointwise
public import proofs.«01_k».proof.Proof.Cost
public import proofs.«01_k».proof.Proof.Consts
@[expose] public section

set_option maxRecDepth 16384
noncomputable section

namespace Cert.Cost.Ref
open Cert.ReferenceIdeal Cert.ReferenceIdeal.Read Idealize.ShloMosaic Idealize.ShloMosaic.TcCoe Idealize.SL.Sem Idealize.ShloMosaic.Tactic

/-- Row `n` of the flattened softmax is the softmax of the scores of prediction `(n / 500, n % 500)`. -/
theorem soft_apply (x0 : (⟨S8x500x2, .f32⟩ : BufTy).Contents (Elt Ideal)) (n : Fin 4000) (k : Fin 2) :
    val_main_v12 x0 (ix2 n k)
      = soft (fun c => x0 (ix3 ⟨n.val / 500, by omega⟩ ⟨n.val % 500, by omega⟩ c)) k := by
  pointwise [val_main_v12, val_main_v11, val_main_v10, val_main_v9, val_main_v8, val_main_v7, val_main_v6, val_main_v5, val_main_v4, val_main_v3, val_main_v2, val_main_v1, val_main_cst_0, val_main_cst, val_main_cst_1]
  have hm : ∀ x : EReal, max (Ideal.ofBits .f32 4286578688#32) x = x := fun x => by rw [negInf_val]; exact max_eq_right bot_le
  simp only [hm]
  rfl

/-- Taking the classes' columns out of the softmax: entry `(n, t)` is the entry of row `n` at the class of target `t`. -/
theorem gather_apply (x : S4000x2.Idx → EReal) (idx : IVec S400x1 32) (n : Fin 4000) (t : Fin 400) (c : Fin 2)
    (h : idx (ix2 t 0) = BitVec.ofNat 32 c.val) :
    Host.gather gather_S4000x2_S400x1_S4000x400_0_1_n_n_1_1_40001 x idx (ix2 n t) = x (ix2 n c) := by
  unfold Host.gather
  congr 1
  funext a
  refine Fin.ext ?_
  show GatherDims.start _ (ix2 n t) idx a + GatherDims.batchCoord _ (ix2 n t) a + GatherDims.offCoord _ (ix2 n t) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · unfold GatherDims.start
    rw [dif_neg (show (0 : Fin 2) ∉ GatherDims.startIndexMap gather_S4000x2_S400x1_S4000x400_0_1_n_n_1_1_40001 by decide), Nat.zero_add]
    rfl
  · rw [GatherDims.offCoord_eq_zero _ _ _ (show (1 : Fin 2) ∉ GatherDims.sKept gather_S4000x2_S400x1_S4000x400_0_1_n_n_1_1_40001 by decide), Nat.add_zero]
    unfold GatherDims.start
    rw [dif_pos (show (1 : Fin 2) ∈ GatherDims.startIndexMap gather_S4000x2_S400x1_S4000x400_0_1_n_n_1_1_40001 by decide)]
    have hs : GatherDims.siIdx gather_S4000x2_S400x1_S4000x400_0_1_n_n_1_1_40001 (ix2 n t) ⟨0, by decide⟩ = ix2 t 0 := by
      funext b
      refine Fin.ext ?_
      match b with
      | ⟨0, _⟩ => rfl
      | ⟨1, _⟩ => rfl
    show min (idx (GatherDims.siIdx gather_S4000x2_S400x1_S4000x400_0_1_n_n_1_1_40001 (ix2 n t) ⟨0, by decide⟩)).toInt.toNat 1 = c.val
    rw [hs, h]
    fin_cases c <;> rfl

/-- The class column the reference reads for a target whose class is a class number. -/
theorem column_apply (x2 : (⟨S400, .i32⟩ : BufTy).Contents (Elt Ideal)) (t : Fin 400) (c : Fin 2)
    (h : x2 (ix1 t) = BitVec.ofNat 32 c.val) : val_main_v37 (F := Ideal) x2 (ix2 t 0) = BitVec.ofNat 32 c.val := by
  pointwise [val_main_v37, val_main_v36,val_main_v35, val_main_v34,val_main_v33, val_main_v32, val_main_c, val_main_c_2]
  rw [h]
  fin_cases c <;> rfl

/-- THE REFERENCE'S ENTRY `(b, q, t)`, for a target whose class is a class number. -/
theorem cost_apply (x0 : (⟨S8x500x2, .f32⟩ : BufTy).Contents (Elt Ideal)) (x1 : (⟨S8x500x53, .f32⟩ : BufTy).Contents (Elt Ideal))
    (x2 : (⟨S400, .i32⟩ : BufTy).Contents (Elt Ideal)) (x3 : (⟨S400x53, .f32⟩ : BufTy).Contents (Elt Ideal))
    (x4 : (⟨S_, .i32⟩ : BufTy).Contents (Elt Ideal)) (b : Fin 8) (q : Fin 500) (t : Fin 400) (c : Fin 2)
    (h : x2 (ix1 t) = BitVec.ofNat 32 c.val) :
    val_main_v98 (F := Ideal) x0 x1 x2 x3 x4 (ix3 b q t)
      = refCost (fun k => x0 (ix3 b q k)) (fun i => x1 (ix3 b q i)) (fun i => x3 (ix2 t i)) c (FloatOps.sitofp (F := Ideal) .f32 (x4 ix0)) := by
  have hg : val_main_v38 (F := Ideal) x0 x2 (ix2 ⟨b.val * 500 + q.val, by omega⟩ t) = soft (fun k => x0 (ix3 b q k)) c := by
    unfold val_main_v38
    rw [gather_apply _ _ _ t c (column_apply x2 t c h), soft_apply]
    have e1 : (b.val * 500 + q.val) / 500 = b.val := by omega
    have e2 : (b.val * 500 + q.val) % 500 = q.val := by omega
    simp only [e1, e2]
  have hm : ∀ x : Ideal .f32, FloatOps.absf x = mag x := fun _ => rfl
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v0, val_main_cst_3, val_main_cst_4, val_main_cst_5, val_main_cst_6, val_main_cst_7, val_main_cst_8, val_main_cst_9, val_main_cst_10, val_main_cst_11]
  simp only [hm, hg]
  rfl

end Cert.Cost.Ref
-- ==== Proof.PreRead.lean ====
module
public import proofs.«01_k».proof.Pre_sane
public import proofs.«01_k».proof.Proof.Consts
public import proofs.«01_k».proof.Proof.Cost
public import Idealize.ShloMosaic.Lib.ReduceAll
public import Idealize.ShloMosaic.Lib.Affine
public import Idealize.ShloMosaic.Lib.WordCmp
public import Idealize.ShloMosaic.Lib.Pointwise
@[expose] public section

set_option maxRecDepth 16384

namespace Cert.Cost.Pre
open Cert.Pre_sane Idealize.ShloMosaic Idealize.ShloMosaic.Tactic

/-- The shape relations the precondition's operations state. -/
theorem facts : Cert.Pre_sane.Facts := by
  constructor <;> decide

attribute [local instance] facts

/-- A value whose absolute value is below plus infinity is a number. -/
theorem real_of_mag_lt {x : EReal} (h : Ideal.cmp .olt (mag x) (Ideal.ofBits .f32 0x7F800000#32) = 1#1) : ∃ r : ℝ, x = (r : EReal) := by
  rw [posInf_val] at h
  have hlt : mag x < ⊤ := by
    by_contra hn
    simp [Ideal.cmp, hn] at h
  induction x with
  | bot => simp [mag] at hlt
  | top => simp [mag] at hlt
  | coe r => exact ⟨r, rfl⟩

/-- A word that is at least 0 and below 2 is one of the two class numbers. -/
theorem class_of_range {w : BitVec 32} (h0 : IntOp.cmpi .sge w 0#32 = 1#1) (h2 : IntOp.cmpi .slt w 2#32 = 1#1) :
    ∃ c : Fin 2, w = BitVec.ofNat 32 c.val := by
  rw [IntOp.cmpi_sge] at h0
  rw [IntOp.cmpi_slt] at h2
  have e0 : (0#32 : BitVec 32).toInt = 0 := rfl
  have e2 : (2#32 : BitVec 32).toInt = 2 := rfl
  rw [e0] at h0
  rw [e2] at h2
  have hw : w = BitVec.ofInt 32 w.toInt := (BitVec.ofInt_toInt ..).symm
  have : w.toInt = 0 ∨ w.toInt = 1 := by omega
  rcases this with h | h <;> rw [h] at hw
  · exact ⟨0, hw⟩
  · exact ⟨1, hw⟩

/-- What the precondition gives, entry by entry. -/
theorem read (x0 : FVec Ideal S8x500x2 .f32) (x1 : FVec Ideal S8x500x53 .f32) (x2 : IVec S400 32) (x3 : FVec Ideal S400x53 .f32)
    (x4 : IVec S_ 32) (h : Cert.Pre_sane.fn (F := Ideal) x0 x1 x2 x3 x4 = fun _ => 1#1) :
    (∀ t : Fin 400, ∃ c : Fin 2, x2 (ix1 t) = BitVec.ofNat 32 c.val)
    ∧ 1 ≤ (x4 ix0).toInt
    ∧ (∀ (b : Fin 8) (q : Fin 500) (j : Fin 2), ∃ r : ℝ, x1 (ix3 b q ⟨j.val, by omega⟩) = (r : EReal))
    ∧ (∀ (b : Fin 8) (q : Fin 500) (k : Fin 17), ∃ r : ℝ, x1 (ix3 b q ⟨36 + k.val, by omega⟩) = (r : EReal))
    ∧ (∀ (t : Fin 400) (j : Fin 2), ∃ r : ℝ, x3 (ix2 t ⟨j.val, by omega⟩) = (r : EReal))
    ∧ (∀ (t : Fin 400) (k : Fin 17), ∃ r : ℝ, 0 ≤ r ∧ x3 (ix2 t ⟨36 + k.val, by omega⟩) = (r : EReal)) := by
  have hm : ∀ x : Ideal .f32, FloatOps.absf x = mag x := fun _ => rfl
  have e := congrFun h ix0
  dsimp only [fn, fn_part1, fn_part2, andi] at e
  simp only [IntOp.andi_eq_one] at e
  obtain ⟨⟨⟨⟨⟨⟨h1, h2⟩, h3⟩, h4⟩, h5⟩, h6⟩, h7⟩ := e
  refine ⟨fun t => ?_, ?_, fun b q j => ?_, fun b q k => ?_, fun t j => ?_, fun t k => ?_⟩
  · have e := Host.reduce_andi_all _ _ _ _ _ h1 (ix1 t)
    pointwise at e
    obtain ⟨a, b⟩ := IntOp.andi_eq_one.1 e
    exact class_of_range a b
  · exact IntOp.cmpi_sge.1 h2
  · have e := Host.reduce_andi_all _ _ _ _ _ h3 (ix3 b q j)
    pointwise at e
    exact real_of_mag_lt e
  · have e := Host.reduce_andi_all _ _ _ _ _ h4 (ix3 b q k)
    pointwise at e
    exact real_of_mag_lt e
  · have e := Host.reduce_andi_all _ _ _ _ _ h5 (ix2 t j)
    pointwise at e
    exact real_of_mag_lt e
  · have e := Host.reduce_andi_all _ _ _ _ _ h6 (ix2 t k)
    pointwise at e
    obtain ⟨r, hr⟩ := real_of_mag_lt e
    have e' := Host.reduce_andi_all _ _ _ _ _ h7 (ix2 t k)
    pointwise at e'
    refine ⟨r, ?_, hr⟩
    rw [hr] at e'
    by_contra hn
    have hz : Ideal.cmp .oge (r : EReal) 0 = 1#1 := e'
    have : ¬ (0 : EReal) ≤ (r : EReal) := fun hh => hn (EReal.coe_nonneg.1 hh)
    simp [Ideal.cmp, this] at hz

end Cert.Cost.Pre
-- ==== Proof.Tie.lean ====
module
public import proofs.«01_k».proof.Proof.Array
public import proofs.«01_k».proof.Proof.Equation
public import proofs.«01_k».proof.Proof.RefValue
public import proofs.«01_k».proof.Proof.PreRead
@[expose] public section

set_option maxRecDepth 16384
noncomputable section

namespace Cert.Cost
open Idealize.ShloMosaic Idealize.ShloMosaic.TcCoe Idealize.SL.Sem

attribute [local instance] Pre.facts

/-- Of arguments the precondition admits, the array the kernel ends with is the reference's result. -/
theorem costArray_eq (m : (ℓ : Loc Cert.KernelIdeal.nD Cert.KernelIdeal.τ Cert.KernelIdeal.sig) → Buf (Elt Ideal) ℓ)
    (c : Dev Cert.KernelIdeal.nD)
    (h : Cert.Pre_sane.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) = fun _ => 1#1) :
    costArray m c = Cert.ReferenceIdeal.Read.val_main_v98 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) := by
  obtain ⟨hid, hn, hc, hf, hd, hg⟩ := Pre.read _ _ _ _ _ h
  choose cl hcl using hid
  choose cu hcu using hc
  choose fu hfu using hf
  choose cv hcv using hd
  choose gv hgv hgv' using hg
  funext i
  obtain ⟨b, q, t, rfl⟩ : ∃ b q t, i = ix3 b q t := ⟨i 0, i 1, i 2, eq_ix3 i⟩
  refine Eq.trans ?_ (Ref.cost_apply _ _ _ _ _ b q t (cl t) (hcl t)).symm
  exact cost_eq _ _ _ _ (cl t) (hcl t) (Int.cast_pos.2 (lt_of_lt_of_le Int.zero_lt_one hn)) (hcu b q) (hcv t) (hfu b q) (hgv' t) (hgv t)

end Cert.Cost
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Tie
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.Tactic

/-- The kernel and the reference, run from memories that agree on arguments the precondition admits, end with
    the same result, read over the extended reals, and with their arguments unchanged. -/
theorem algebraic : Cert.algebraic_KernelIdeal_ReferenceIdeal_pre_sane (hKernelIdeal := Cert.KernelIdeal.Gen.facts)
    (hReferenceIdeal := Cert.ReferenceIdeal.Gen.facts) (hPre_sane := Cert.Cost.Pre.facts) := by
  intro m g m' g' hpre hagree
  refine ⟨fun c => Cert.Cost.costArray m c, ?_, ?_⟩
  · exact (θ_run _ _ _).mono (fun r h c => ⟨(h c).1.trans (Cert.Cost.final m c), (h c).2⟩) (Cert.KernelIdeal.Value.run_blocks m g)
  · refine (θ_run _ _ _).mono (fun r h c => ⟨(h c).1.trans ?_, (h c).2⟩) (Cert.ReferenceIdeal.Value.run m' g')
    obtain ⟨h0, h1, h2, h3, h4⟩ := hagree c
    rw [Cert.ReferenceIdeal.Read.val_main_v98_eq, h0, h1, h2, h3, h4]
    exact (Cert.Cost.costArray_eq m c (hpre c)).symm

/-- The reference runs to the end from every memory, leaves its arguments as they were and every counter at zero:
    it declares no counter at all. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- All that is claimed: the kernel on the device, the kernel over the extended reals and the reference each run to the
    end, leave their arguments as they were and every counter at zero; no operation of the kernel was replaced; and the
    kernel's result is the reference's. -/
theorem claim : Cert.Claim :=
  ⟨Cert.Kernel.Gen.facts, Cert.KernelIdeal.Gen.facts, Cert.ReferenceIdeal.Gen.facts, Cert.Cost.Pre.facts,
    fun m g _ => Cert.Kernel.Gen.frame m g,
    fun m g _ => Cert.KernelIdeal.Gen.frame m g,
    fun m g _ => Cert.KernelIdeal.Gen.frame m g,
    fun m g _ => reference_frame m g trivial,
    fun m g _ => reference_frame m g trivial,
    trivial,
    algebraic⟩

end Cert.Proof

end
